-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x7168 : Shape := ⟨3, ![16, 1, 7168]⟩
abbrev S7168x4096 : Shape := ⟨2, ![7168, 4096]⟩
abbrev S56x8192 : Shape := ⟨2, ![56, 8192]⟩
abbrev S16x56x128 : Shape := ⟨3, ![16, 56, 128]⟩
abbrev S56x16x128 : Shape := ⟨3, ![56, 16, 128]⟩
abbrev S_ : Shape := ⟨0, ![]⟩
abbrev S56x16x128x1 : Shape := ⟨4, ![56, 16, 128, 1]⟩
abbrev S56x16x128x2 : Shape := ⟨4, ![56, 16, 128, 2]⟩
abbrev S56x16x256 : Shape := ⟨3, ![56, 16, 256]⟩
abbrev S56x32x256 : Shape := ⟨3, ![56, 32, 256]⟩
abbrev S56x4096x2 : Shape := ⟨3, ![56, 4096, 2]⟩
abbrev S56x4096 : Shape := ⟨2, ![56, 4096]⟩
abbrev S32x4096 : Shape := ⟨2, ![32, 4096]⟩
abbrev S7168x256 : Shape := ⟨2, ![7168, 256]⟩
abbrev S56x256 : Shape := ⟨2, ![56, 256]⟩
abbrev S32x256 : Shape := ⟨2, ![32, 256]⟩
abbrev S128x256 : Shape := ⟨2, ![128, 256]⟩
abbrev S32x1x256 : Shape := ⟨3, ![32, 1, 256]⟩
abbrev S32x8x256 : Shape := ⟨3, ![32, 8, 256]⟩
abbrev S256x256 : Shape := ⟨2, ![256, 256]⟩
abbrev S1x256 : Shape := ⟨2, ![1, 256]⟩
abbrev S1x32x256 : Shape := ⟨3, ![1, 32, 256]⟩
abbrev S16x4096 : Shape := ⟨2, ![16, 4096]⟩
abbrev S16x4096x1 : Shape := ⟨3, ![16, 4096, 1]⟩
abbrev S16x4096x2 : Shape := ⟨3, ![16, 4096, 2]⟩
abbrev S16x1x8192 : Shape := ⟨3, ![16, 1, 8192]⟩

abbrev nBuf : Space → Nat
  | .hbm => 29
  | .vmem => 11
  | .smem => 0
  | _ => 0

abbrev bufTy : (tb : Table) → Fin (tcTables nBuf tb) → BufTy
  | .hbm, ⟨0, _⟩ => ⟨S16x1x7168, .bf16⟩
  | .hbm, ⟨1, _⟩ => ⟨S7168x4096, .i8⟩
  | .hbm, ⟨2, _⟩ => ⟨S56x8192, .i16⟩
  | .hbm, ⟨3, _⟩ => ⟨S7168x4096, .i8⟩
  | .hbm, ⟨4, _⟩ => ⟨S56x8192, .i16⟩
  | .hbm, ⟨5, _⟩ => ⟨S16x56x128, .bf16⟩
  | .hbm, ⟨6, _⟩ => ⟨S56x16x128, .bf16⟩
  | .hbm, ⟨7, _⟩ => ⟨S_, .bf16⟩
  | .hbm, ⟨8, _⟩ => ⟨S56x16x128, .bf16⟩
  | .hbm, ⟨9, _⟩ => ⟨S56x16x128x1, .bf16⟩
  | .hbm, ⟨10, _⟩ => ⟨S56x16x128x1, .bf16⟩
  | .hbm, ⟨11, _⟩ => ⟨S56x16x128x2, .bf16⟩
  | .hbm, ⟨12, _⟩ => ⟨S56x16x256, .bf16⟩
  | .hbm, ⟨13, _⟩ => ⟨S56x16x128x1, .bf16⟩
  | .hbm, ⟨14, _⟩ => ⟨S56x16x128x1, .bf16⟩
  | .hbm, ⟨15, _⟩ => ⟨S56x16x128x2, .bf16⟩
  | .hbm, ⟨16, _⟩ => ⟨S56x16x256, .bf16⟩
  | .hbm, ⟨17, _⟩ => ⟨S56x32x256, .bf16⟩
  | .hbm, ⟨18, _⟩ => ⟨S56x4096x2, .i16⟩
  | .hbm, ⟨19, _⟩ => ⟨S56x4096, .i32⟩
  | .hbm, ⟨20, _⟩ => ⟨S56x4096x2, .i16⟩
  | .hbm, ⟨21, _⟩ => ⟨S56x4096, .i32⟩
  | .hbm, ⟨22, _⟩ => ⟨S32x4096, .bf16⟩
  | .hbm, ⟨23, _⟩ => ⟨S16x4096, .bf16⟩
  | .hbm, ⟨24, _⟩ => ⟨S16x4096, .bf16⟩
  | .hbm, ⟨25, _⟩ => ⟨S16x4096x1, .bf16⟩
  | .hbm, ⟨26, _⟩ => ⟨S16x4096x1, .bf16⟩
  | .hbm, ⟨27, _⟩ => ⟨S16x4096x2, .bf16⟩
  | .hbm, ⟨28, _⟩ => ⟨S16x1x8192, .bf16⟩
  | .local _ .vmem, ⟨0, _⟩ => ⟨S56x32x256, .bf16⟩
  | .local _ .vmem, ⟨1, _⟩ => ⟨S7168x256, .i8⟩
  | .local _ .vmem, ⟨2, _⟩ => ⟨S7168x256, .i8⟩
  | .local _ .vmem, ⟨3, _⟩ => ⟨S56x256, .i32⟩
  | .local _ .vmem, ⟨4, _⟩ => ⟨S56x256, .i32⟩
  | .local _ .vmem, ⟨5, _⟩ => ⟨S7168x256, .i8⟩
  | .local _ .vmem, ⟨6, _⟩ => ⟨S7168x256, .i8⟩
  | .local _ .vmem, ⟨7, _⟩ => ⟨S56x256, .i32⟩
  | .local _ .vmem, ⟨8, _⟩ => ⟨S56x256, .i32⟩
  | .local _ .vmem, ⟨9, _⟩ => ⟨S32x256, .bf16⟩
  | .local _ .vmem, ⟨10, _⟩ => ⟨S32x256, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S56x32x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7168x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1x7168 : Shape := ⟨3, ![16, 1, 7168]⟩
abbrev S7168x4096 : Shape := ⟨2, ![7168, 4096]⟩
abbrev S56x8192 : Shape := ⟨2, ![56, 8192]⟩
abbrev S16x7168 : Shape := ⟨2, ![16, 7168]⟩
abbrev S56x4096x2 : Shape := ⟨3, ![56, 4096, 2]⟩
abbrev S_ : Shape := ⟨0, ![]⟩
abbrev S56x4096x1 : Shape := ⟨3, ![56, 4096, 1]⟩
abbrev S56x4096 : Shape := ⟨2, ![56, 4096]⟩
abbrev S56x128x4096 : Shape := ⟨3, ![56, 128, 4096]⟩
abbrev S56x1x4096 : Shape := ⟨3, ![56, 1, 4096]⟩
abbrev S16x4096 : Shape := ⟨2, ![16, 4096]⟩
abbrev S16x4096x1 : Shape := ⟨3, ![16, 4096, 1]⟩
abbrev S16x4096x2 : Shape := ⟨3, ![16, 4096, 2]⟩
abbrev S16x1x8192 : Shape := ⟨3, ![16, 1, 8192]⟩

abbrev nBuf : Space → Nat
  | .hbm => 98
  | .vmem => 0
  | .smem => 0
  | _ => 0

abbrev bufTy : (tb : Table) → Fin (tcTables nBuf tb) → BufTy
  | .hbm, ⟨0, _⟩ => ⟨S16x1x7168, .bf16⟩
  | .hbm, ⟨1, _⟩ => ⟨S7168x4096, .i8⟩
  | .hbm, ⟨2, _⟩ => ⟨S56x8192, .i16⟩
  | .hbm, ⟨3, _⟩ => ⟨S7168x4096, .i8⟩
  | .hbm, ⟨4, _⟩ => ⟨S56x8192, .i16⟩
  | .hbm, ⟨5, _⟩ => ⟨S16x7168, .bf16⟩
  | .hbm, ⟨6, _⟩ => ⟨S56x8192, .bf16⟩
  | .hbm, ⟨7, _⟩ => ⟨S56x8192, .bf16⟩
  | .hbm, ⟨8, _⟩ => ⟨S56x4096x2, .bf16⟩
  | .hbm, ⟨9, _⟩ => ⟨S7168x4096, .i32⟩
  | .hbm, ⟨10, _⟩ => ⟨S_, .i32⟩
  | .hbm, ⟨11, _⟩ => ⟨S7168x4096, .i32⟩
  | .hbm, ⟨12, _⟩ => ⟨S7168x4096, .i32⟩
  | .hbm, ⟨13, _⟩ => ⟨S56x4096x1, .bf16⟩
  | .hbm, ⟨14, _⟩ => ⟨S56x4096, .bf16⟩
  | .hbm, ⟨15, _⟩ => ⟨S7168x4096, .bf16⟩
  | .hbm, ⟨16, _⟩ => ⟨S_, .bf16⟩
  | .hbm, ⟨17, _⟩ => ⟨S7168x4096, .bf16⟩
  | .hbm, ⟨18, _⟩ => ⟨S7168x4096, .bf16⟩
  | .hbm, ⟨19, _⟩ => ⟨S56x128x4096, .bf16⟩
  | .hbm, ⟨20, _⟩ => ⟨S56x1x4096, .bf16⟩
  | .hbm, ⟨21, _⟩ => ⟨S56x128x4096, .bf16⟩
  | .hbm, ⟨22, _⟩ => ⟨S56x128x4096, .bf16⟩
  | .hbm, ⟨23, _⟩ => ⟨S7168x4096, .bf16⟩
  | .hbm, ⟨24, _⟩ => ⟨S_, .i32⟩
  | .hbm, ⟨25, _⟩ => ⟨S7168x4096, .i32⟩
  | .hbm, ⟨26, _⟩ => ⟨S7168x4096, .i32⟩
  | .hbm, ⟨27, _⟩ => ⟨S56x4096x1, .bf16⟩
  | .hbm, ⟨28, _⟩ => ⟨S56x4096, .bf16⟩
  | .hbm, ⟨29, _⟩ => ⟨S7168x4096, .bf16⟩
  | .hbm, ⟨30, _⟩ => ⟨S_, .bf16⟩
  | .hbm, ⟨31, _⟩ => ⟨S7168x4096, .bf16⟩
  | .hbm, ⟨32, _⟩ => ⟨S7168x4096, .bf16⟩
  | .hbm, ⟨33, _⟩ => ⟨S56x128x4096, .bf16⟩
  | .hbm, ⟨34, _⟩ => ⟨S56x1x4096, .bf16⟩
  | .hbm, ⟨35, _⟩ => ⟨S56x128x4096, .bf16⟩
  | .hbm, ⟨36, _⟩ => ⟨S56x128x4096, .bf16⟩
  | .hbm, ⟨37, _⟩ => ⟨S7168x4096, .bf16⟩
  | .hbm, ⟨38, _⟩ => ⟨S16x4096, .f32⟩
  | .hbm, ⟨39, _⟩ => ⟨S16x4096, .f32⟩
  | .hbm, ⟨40, _⟩ => ⟨S56x4096x2, .bf16⟩
  | .hbm, ⟨41, _⟩ => ⟨S7168x4096, .i32⟩
  | .hbm, ⟨42, _⟩ => ⟨S_, .i32⟩
  | .hbm, ⟨43, _⟩ => ⟨S7168x4096, .i32⟩
  | .hbm, ⟨44, _⟩ => ⟨S7168x4096, .i32⟩
  | .hbm, ⟨45, _⟩ => ⟨S56x4096x1, .bf16⟩
  | .hbm, ⟨46, _⟩ => ⟨S56x4096, .bf16⟩
  | .hbm, ⟨47, _⟩ => ⟨S7168x4096, .bf16⟩
  | .hbm, ⟨48, _⟩ => ⟨S_, .bf16⟩
  | .hbm, ⟨49, _⟩ => ⟨S7168x4096, .bf16⟩
  | .hbm, ⟨50, _⟩ => ⟨S7168x4096, .bf16⟩
  | .hbm, ⟨51, _⟩ => ⟨S56x128x4096, .bf16⟩
  | .hbm, ⟨52, _⟩ => ⟨S56x1x4096, .bf16⟩
  | .hbm, ⟨53, _⟩ => ⟨S56x128x4096, .bf16⟩
  | .hbm, ⟨54, _⟩ => ⟨S56x128x4096, .bf16⟩
  | .hbm, ⟨55, _⟩ => ⟨S7168x4096, .bf16⟩
  | .hbm, ⟨56, _⟩ => ⟨S_, .i32⟩
  | .hbm, ⟨57, _⟩ => ⟨S7168x4096, .i32⟩
  | .hbm, ⟨58, _⟩ => ⟨S7168x4096, .i32⟩
  | .hbm, ⟨59, _⟩ => ⟨S56x4096x1, .bf16⟩
  | .hbm, ⟨60, _⟩ => ⟨S56x4096, .bf16⟩
  | .hbm, ⟨61, _⟩ => ⟨S7168x4096, .bf16⟩
  | .hbm, ⟨62, _⟩ => ⟨S_, .bf16⟩
  | .hbm, ⟨63, _⟩ => ⟨S7168x4096, .bf16⟩
  | .hbm, ⟨64, _⟩ => ⟨S7168x4096, .bf16⟩
  | .hbm, ⟨65, _⟩ => ⟨S56x128x4096, .bf16⟩
  | .hbm, ⟨66, _⟩ => ⟨S56x1x4096, .bf16⟩
  | .hbm, ⟨67, _⟩ => ⟨S56x128x4096, .bf16⟩
  | .hbm, ⟨68, _⟩ => ⟨S56x128x4096, .bf16⟩
  | .hbm, ⟨69, _⟩ => ⟨S7168x4096, .bf16⟩
  | .hbm, ⟨70, _⟩ => ⟨S16x4096, .f32⟩
  | .hbm, ⟨71, _⟩ => ⟨S16x4096, .f32⟩
  | .hbm, ⟨72, _⟩ => ⟨S16x4096, .f32⟩
  | .hbm, ⟨73, _⟩ => ⟨S16x4096, .f32⟩
  | .hbm, ⟨74, _⟩ => ⟨S_, .f32⟩
  | .hbm, ⟨75, _⟩ => ⟨S16x4096, .f32⟩
  | .hbm, ⟨76, _⟩ => ⟨S16x4096, .f32⟩
  | .hbm, ⟨77, _⟩ => ⟨S_, .f32⟩
  | .hbm, ⟨78, _⟩ => ⟨S16x4096, .f32⟩
  | .hbm, ⟨79, _⟩ => ⟨S16x4096, .f32⟩
  | .hbm, ⟨80, _⟩ => ⟨S16x4096, .f32⟩
  | .hbm, ⟨81, _⟩ => ⟨S16x4096, .f32⟩
  | .hbm, ⟨82, _⟩ => ⟨S16x4096, .bf16⟩
  | .hbm, ⟨83, _⟩ => ⟨S16x4096, .f32⟩
  | .hbm, ⟨84, _⟩ => ⟨S16x4096, .f32⟩
  | .hbm, ⟨85, _⟩ => ⟨S_, .f32⟩
  | .hbm, ⟨86, _⟩ => ⟨S16x4096, .f32⟩
  | .hbm, ⟨87, _⟩ => ⟨S16x4096, .f32⟩
  | .hbm, ⟨88, _⟩ => ⟨S_, .f32⟩
  | .hbm, ⟨89, _⟩ => ⟨S16x4096, .f32⟩
  | .hbm, ⟨90, _⟩ => ⟨S16x4096, .f32⟩
  | .hbm, ⟨91, _⟩ => ⟨S16x4096, .f32⟩
  | .hbm, ⟨92, _⟩ => ⟨S16x4096, .f32⟩
  | .hbm, ⟨93, _⟩ => ⟨S16x4096, .bf16⟩
  | .hbm, ⟨94, _⟩ => ⟨S16x4096x1, .bf16⟩
  | .hbm, ⟨95, _⟩ => ⟨S16x4096x1, .bf16⟩
  | .hbm, ⟨96, _⟩ => ⟨S16x4096x2, .bf16⟩
  | .hbm, ⟨97, _⟩ => ⟨S16x1x8192, .bf16⟩
  | _, _ => ⟨S16x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Proof.Body.lean ====
/-
  What one grid point of the kernel writes, as two folds over the 56 groups of 128 input features: the printed body
  (4382 straight-line statements) is the same step taken 56 times for the gate and 56 times for the up projection.
-/
module

public import proofs.«01_k».proof.Proof.Gen.KernelIdeal.Frame

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-- Group `g`'s 128 rows of a packed weight block lie inside the block. -/
theorem inbQ (g : ℕ) (h : g < 56) : ∀ a, (![g * 128, 0] : Fin 2 → Nat) a + S128x256.size a ≤ S7168x256.size a := by
  intro a; fin_cases a
  · show g * 128 + 128 ≤ 7168; omega
  · show 0 + 256 ≤ 256; omega

/-- Group `g`'s row of a scale block lies inside the block. -/
theorem inbS (g : ℕ) (h : g < 56) : ∀ a, (![g, 0] : Fin 2 → Nat) a + S1x256.size a ≤ S56x256.size a := by
  intro a; fin_cases a
  · show g + 1 ≤ 56; omega
  · show 0 + 256 ≤ 256; omega

/-- Group `g`'s slab of the spread activations lies inside the array. -/
theorem inbX (g : ℕ) (h : g < 56) : ∀ a, (![g, 0, 0] : Fin 3 → Nat) a + S1x32x256.size a ≤ S56x32x256.size a := by
  intro a; fin_cases a
  · show g + 1 ≤ 56; omega
  · show 0 + 32 ≤ 32; omega
  · show 0 + 256 ≤ 256; omega

/-- Group `g`'s packed weights, scale words and activations, as the kernel loads them. -/
def ldQ (x : Vec F S7168x256 .i8) (g : ℕ) (h : g < 56) : Vec F S128x256 .i8 :=
  View.ld x (Rect.unit (s := S7168x256) ![g * 128, 0] S128x256.size (inbQ g h))
def ldS (x : Vec F S56x256 .i32) (g : ℕ) (h : g < 56) : Vec F S1x256 .i32 :=
  View.ld x (Rect.unit (s := S56x256) ![g, 0] S1x256.size (inbS g h))
def ldX (x : Vec F S56x32x256 .bf16) (g : ℕ) (h : g < 56) : Vec F S1x32x256 .bf16 :=
  View.ld x (Rect.unit (s := S56x32x256) ![g, 0, 0] S1x32x256.size (inbX g h))

/-- The integer codes of 128 packed rows: 256 rows of signed 4-bit integers. -/
def codes (q : Vec F S128x256 .i8) : IVec S256x256 32 :=
  shapeCast S256x256
    (shrsi
      (shli
        (broadcastTo S32x8x256
          (shapeCast S32x1x256
            (shapeCast S32x1x256 (xori (bitcast S32x256 32 q bitcasts_S128x256_w8_S32x256_w32) (broadcast S32x256 2290649224#32))
              shapeCasts_S32x256_S32x1x256)
            shapeCasts_S32x1x256_S32x1x256)
          broadcasts_S32x1x256_S32x8x256)
        (muli (broadcast S32x8x256 4#32)
          (subi (broadcast S32x8x256 7#32) (iota .tc S32x8x256 32 [1] iota_S32x8x256_d1_w32))))
      (broadcast S32x8x256 28#32))
    shapeCasts_S32x8x256_S256x256

/-- The scale of each of a group's 256 unpacked rows: the two halves of each scale word, alternating by row. -/
def scales (s : Vec F S1x256 .i32) : FVec F S256x256 .bf16 :=
  bitcastToFloat .bf16
    (bitcast S256x256 16
      (broadcastTo S128x256
        (shapeCast S1x256 (shapeCast S1x256 s shapeCasts_S1x256_S1x256) shapeCasts_S1x256_S1x256)
        broadcasts_S1x256_S128x256)
      bitcasts_S128x256_w32_S256x256_w16)

/-- One group's dequantised weights. -/
def weights (q : Vec F S128x256 .i8) (s : Vec F S1x256 .i32) : FVec F S256x256 .bf16 :=
  mulf (sitofp .bf16 (codes q)) (scales s)

/-- One step of a projection: the group's product added to the accumulator. -/
def step (acc : FVec F S32x256 .f32) (q : Vec F S128x256 .i8) (s : Vec F S1x256 .i32) (x : Vec F S1x32x256 .bf16) :
    FVec F S32x256 .f32 :=
  addf acc (matmul dot_S32x256_S256x256_S32x256_1_0_0_1_n_n none (shapeCast S32x256 x shapeCasts_S1x32x256_S32x256)
    (weights q s) (constant S32x256 .f32 0x00000000#32))

/-- The accumulator after the first `n` groups. -/
def proj (x0 : Vec F S56x32x256 .bf16) (q : Vec F S7168x256 .i8) (s : Vec F S56x256 .i32) :
    (n : ℕ) → n ≤ 56 → FVec F S32x256 .f32
  | 0, _ => broadcast S32x256 (Scalar.ofBits .f32 0x00000000#32)
  | n + 1, h => step (proj x0 q s n (Nat.le_of_succ_le h)) (ldQ q n h) (ldS s n h) (ldX x0 n h)

/-- The gated product of the two projections. -/
def gated (gate up : FVec F S32x256 .f32) : FVec F S32x256 .bf16 :=
  truncf .bf16 (mulf (mulf gate (logistic gate)) up) bitsLt_bf16_f32

set_option maxRecDepth 65536 in
/-- The block a grid point writes is the gated product of the two projections over all 56 groups. -/
theorem out_eq (x0 : Vec F S56x32x256 .bf16) (x1 : Vec F S7168x256 .i8) (x2 : Vec F S56x256 .i32)
    (x3 : Vec F S7168x256 .i8) (x4 : Vec F S56x256 .i32) :
    out0_5 x0 x1 x2 x3 x4
      = View.canon [⟨r0_168, gated (proj x0 x1 x2 56 (Nat.le_refl _)) (proj x0 x3 x4 56 (Nat.le_refl _))⟩] := rfl

end Cert.KernelIdeal.Body

end
-- ==== Proof.Nibbles.lean ====
/-
  The two 4-bit codes of a packed byte, and what the kernel's word arithmetic makes of them: a 32-bit word with the top
  bit of each of its eight nibbles flipped, shifted left until nibble `n` is on top and then right with its sign, is
  nibble `n` minus eight.
-/
module

public import Idealize.ShloMosaic.Lib.ValueIdx
public import Idealize.ShloMosaic.Lib.BitcastFour

@[expose] public section

noncomputable section

namespace Cert.Int4

open Idealize.ShloMosaic

/-- Code `p` of a packed byte: its low four bits (`p = 0`) or its high four (`p = 1`). -/
def code (b : BitVec 8) (p : ℕ) : BitVec 4 := b.extractLsb' (4 * p) 4

/-- Flipping the top bit of a 4-bit pattern and reading it signed subtracts eight from the unsigned reading. -/
theorem toInt_flip : ∀ c : BitVec 4, (c ^^^ 8#4).toInt = (c.toNat : ℤ) - 8 := by decide

/-- Each nibble of the kernel's mask is the pattern 1000. -/
theorem mask_bit : ∀ (n : Fin 8) (i : Fin 4), (2290649224#32).getLsbD (4 * n.val + i.val) = (8#4).getLsbD i.val := by decide

/-- The shift amount that brings nibble `n` to the top of its word. -/
theorem shift_amount : ∀ n : Fin 8,
    (IntOp.muli 4#32 (IntOp.subi 7#32 (BitVec.ofNat 32 n.val))).toNat = 4 * (7 - n.val) := by decide

/-- Nibble `n` of a masked word, sign-extended, from the two shifts. -/
theorem shifts_eq (w : BitVec 32) (n : Fin 8) :
    IntOp.shrsi .vector (IntOp.shli .vector (IntOp.xori w 2290649224#32) (IntOp.muli 4#32 (IntOp.subi 7#32 (BitVec.ofNat 32 n.val))))
        28#32
      = (w.extractLsb' (4 * n.val) 4 ^^^ 8#4).signExtend 32 := by
  have hn := n.isLt
  have ha := shift_amount n
  generalize hA : IntOp.muli 4#32 (IntOp.subi 7#32 (BitVec.ofNat 32 n.val)) = A at ha ⊢
  have hlt : A.toNat < 32 := by omega
  simp only [IntOp.shrsi, IntOp.shli, IntOp.xori, if_pos hlt]
  rw [if_pos (by decide)]
  apply BitVec.eq_of_getLsbD_eq
  intro i hi
  have h28 : (28#32 : BitVec 32).toNat = 28 := rfl
  have hm (j : ℕ) (hj : j < 4) := mask_bit n ⟨j, hj⟩
  simp only [BitVec.sshiftRight', BitVec.getLsbD_sshiftRight, BitVec.shiftLeft_eq', BitVec.getLsbD_shiftLeft, BitVec.getLsbD_xor, BitVec.getLsbD_signExtend,
    BitVec.getLsbD_extractLsb', BitVec.msb_eq_getLsbD_last, h28, ha]
  have hi' : ¬ 32 ≤ i := by omega
  by_cases h4 : i < 4
  · have e1 : 28 + i < 32 := by omega
    have e2 : ¬ 28 + i < 4 * (7 - n.val) := by omega
    have e3 : 28 + i - 4 * (7 - n.val) = 4 * n.val + i := by omega
    simp only [hi', h4, e1, e2, e3, hi, decide_true, decide_false, Bool.not_false, Bool.true_and, if_true]
    rw [hm i h4]
  · have e1 : ¬ 28 + i < 32 := by omega
    have e2 : ¬ 32 - 1 < 4 * (7 - n.val) := by omega
    have e3 : 32 - 1 - 4 * (7 - n.val) = 4 * n.val + 3 := by omega
    simp only [hi', h4, e1, e2, e3, hi, decide_true, decide_false, Bool.not_false, Bool.true_and, if_false]
    simp [hm 3 (by omega)]

/-- The low code as the reference reads it: the byte, widened, masked by fifteen. -/
theorem code_low (b : BitVec 8) : (IntOp.andi (b.setWidth 32) 15#32).toNat = (code b 0).toNat := by
  revert b; decide

/-- The high code as the reference reads it: the byte, widened, shifted right by four. -/
theorem code_high (b : BitVec 8) : (IntOp.shrui .host (b.setWidth 32) 4#32).toNat = (code b 1).toNat := by
  revert b; decide

/-- A dequantised weight: the code minus eight, times the scale its bfloat16 pattern stands for. -/
def weight (b : BitVec 8) (p : ℕ) (s : BitVec 16) : EReal :=
  ((((code b p).toNat : ℝ) - 8 : ℝ) : EReal) * Ideal.ofBits .bf16 s

end Cert.Int4

end
-- ==== Proof.Group.lean ====
/-
  One group step of the kernel body read at an index: the integer codes of 128 packed rows, their scales, the
  dequantised weights, and the product added to the accumulator.
-/
module

public import proofs.«01_k».proof.Proof.Body
public import proofs.«01_k».proof.Proof.Nibbles
public import Idealize.ShloMosaic.Lib.MatmulPlain
public import Idealize.ShloMosaic.Lib.IdealHost
public import Idealize.ShloMosaic.Lib.Pipeline.Value

@[expose] public section

noncomputable section

namespace Cert.Int4

open Idealize.ShloMosaic Idealize.ShloMosaic.ValueIdx

/-! Row-major positions by coordinates. -/

theorem rowMajor_ix2 {n0 n1 : ℕ} (a : Fin n0) (b : Fin n1) :
    ((⟨2, ![n0, n1]⟩ : Shape).rowMajor (ix2 a b)).val = a.val * n1 + b.val :=
  Shape.rowMajor_val_two (d := ![n0, n1]) (ix2 a b)

theorem rowMajor_ix3 {n0 n1 n2 : ℕ} (a : Fin n0) (b : Fin n1) (c : Fin n2) :
    ((⟨3, ![n0, n1, n2]⟩ : Shape).rowMajor (ix3 a b c)).val = (a.val * n1 + b.val) * n2 + c.val :=
  Shape.rowMajor_val_three (d := ![n0, n1, n2]) (ix3 a b c)

theorem rowMajor_ix4 {n0 n1 n2 n3 : ℕ} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four (d := ![n0, n1, n2, n3]) (ix4 a b c d)

end Cert.Int4

namespace Cert.KernelIdeal.Body

open Cert.KernelIdeal Cert.KernelIdeal.Gen Idealize.ShloMosaic Idealize.ShloMosaic.ValueIdx Cert.Int4

/-- Row `r` of a group's codes is code `r % 2` of packed row `r / 2`, minus eight as a signed word. -/
theorem codes_apply (q : Vec Ideal S128x256 .i8) (r j : Fin 256) (p : Fin 128) (hp : p.val = r.val / 2) :
    codes q (ix2 r j) = (code (q (ix2 p j)) (r.val % 2) ^^^ 8#4).signExtend 32 := by
  have hr := r.isLt
  have hn : r.val % 8 < 8 := by omega
  have hk : r.val / 8 < 32 := by omega
  let n : Fin 8 := ⟨r.val % 8, hn⟩
  let k : Fin 32 := ⟨r.val / 8, hk⟩
  unfold codes
  rw [shapeCast_apply _ _ (ix2 r j) (ix3 k n j) (by
    rw [rowMajor_ix3, rowMajor_ix2]; show (r.val / 8 * 8 + r.val % 8) * 256 + j.val = r.val * 256 + j.val; omega)]
  show IntOp.shrsi .vector (IntOp.shli .vector (broadcastTo S32x8x256 _ _ (ix3 k n j))
    (IntOp.muli 4#32 (IntOp.subi 7#32 (iota .tc S32x8x256 32 [1] _ (ix3 k n j))))) 28#32 = _
  rw [iota_single_apply, shapeCast_self,
    broadcastTo_apply _ _ (ix3 k n j) (ix3 k (0 : Fin 1) j) (fun a => by fin_cases a <;> rfl),
    shapeCast_apply _ _ (ix3 k (0 : Fin 1) j) (ix2 k j) (by
      rw [rowMajor_ix3, rowMajor_ix2]; show k.val * 256 + j.val = (k.val * 1 + 0) * 256 + j.val; omega)]
  refine (shifts_eq _ n).trans ?_
  congr 2
  apply BitVec.eq_of_getLsbD_eq
  intro i hi
  have e := bitcast_8_32_getLsbD_ix2 q bitcasts_S128x256_w8_S32x256_w32 k j (4 * n.val + i) (by omega) p (by
    show p.val = 4 * (r.val / 8) + (4 * (r.val % 8) + i) / 8; omega)
  unfold code
  rw [BitVec.getLsbD_extractLsb', BitVec.getLsbD_extractLsb']
  refine congrArg (decide (i < 4) && ·) (e.trans ?_)
  congr 1
  show (4 * (r.val % 8) + i) % 8 = 4 * (r.val % 2) + i
  omega

/-- Row `r`'s scale is half `r % 2` of the scale word of its column. -/
theorem scales_apply (s : Vec Ideal S1x256 .i32) (r j : Fin 256) :
    scales s (ix2 r j) = Ideal.ofBits .bf16 ((s (ix2 (0 : Fin 1) j)).extractLsb' (16 * (r.val % 2)) 16) := by
  have hr := r.isLt
  unfold scales
  show Ideal.ofBits .bf16 (bitcast S256x256 16 _ _ (ix2 r j)) = _
  rw [bitcast_32_16, shapeCast_self, shapeCast_self]
  have hrow : S256x256.row (ix2 r j) = r.val := rfl
  congr 1
  rw [broadcastTo_apply _ _ _ (ix2 (0 : Fin 1) j) (fun a => by
    fin_cases a
    · rfl
    · exact (Shape.Bitcasts.srcIdx_other bitcasts_S128x256_w32_S256x256_w16 (ix2 r j) _ _ ⟨1, Nat.one_lt_two⟩ (by show ¬ 1 + 2 = 2; omega)).symm),
    hrow]

/-- The dequantised weight at row `r` of a group, column `j`. -/
theorem weights_apply (q : Vec Ideal S128x256 .i8) (s : Vec Ideal S1x256 .i32) (r j : Fin 256) (p : Fin 128)
    (hp : p.val = r.val / 2) :
    weights q s (ix2 r j)
      = weight (q (ix2 p j)) (r.val % 2) ((s (ix2 (0 : Fin 1) j)).extractLsb' (16 * (r.val % 2)) 16) := by
  unfold weights weight
  rw [mulf_apply, scales_apply]
  show (((codes q (ix2 r j)).toInt : ℝ) : EReal) * _ = _
  rw [codes_apply q r j p hp, BitVec.toInt_signExtend_of_le (by omega), toInt_flip]
  push_cast
  rfl

/-- One step at an index: the accumulator plus the group's 256 products. -/
theorem step_apply (acc : FVec Ideal S32x256 .f32) (q : Vec Ideal S128x256 .i8) (s : Vec Ideal S1x256 .i32)
    (x : Vec Ideal S1x32x256 .bf16) (i : Fin 32) (j : Fin 256) :
    step acc q s x (ix2 i j)
      = acc (ix2 i j) + ∑ r : Fin 256, x (ix3 (0 : Fin 1) i r) * weights q s (ix2 r j) := by
  unfold step
  rw [addf_apply]
  congr 1
  refine (Ideal.matmul_plain_apply (M := 32) (K := 256) (N := 256) none _ (weights q s) _ i j).trans ?_
  rw [constant_apply, Ideal.ofBits_zero_f32, zero_add]
  refine Finset.sum_congr rfl fun r _ => ?_
  rw [shapeCast_apply _ _ (ix2 i r) (ix3 (0 : Fin 1) i r) (by
    rw [rowMajor_ix3, rowMajor_ix2]; show (0 * 32 + i.val) * 256 + r.val = i.val * 256 + r.val; omega)]

end Cert.KernelIdeal.Body

end
-- ==== Proof.Block.lean ====
/-
  A projection over all 56 groups, read at an index, and what one grid point writes there. The double sum is stated
  for any number of columns, so that the same formula serves a grid point's block and the whole arrays.
-/
module

public import proofs.«01_k».proof.Proof.Group

@[expose] public section

noncomputable section

namespace Cert.Int4

open Idealize.ShloMosaic Idealize.ShloMosaic.ValueIdx

/-- The gated product of a gate and an up value: `gate * logistic gate * up`. -/
def swiglu (g u : EReal) : EReal := g * Ideal.logistic g * u

/-- Row `r` of group `g` lies in packed row `128 g + r / 2`. -/
def packedRow (g : Fin 56) (r : Fin 256) : Fin 7168 := ⟨g.val * 128 + r.val / 2, by omega⟩

/-- Group `g`'s contribution to row `i`, column `c` of a projection of the spread activations `x` with the packed
    weights `q` and the scale words `s`, over `n` columns. -/
def groupSum {n : ℕ} (x : Shape.Idx ⟨3, ![56, 32, 256]⟩ → EReal) (q : Shape.Idx ⟨2, ![7168, n]⟩ → BitVec 8)
    (s : Shape.Idx ⟨2, ![56, n]⟩ → BitVec 32) (i : Fin 32) (c : Fin n) (g : Fin 56) : EReal :=
  ∑ r : Fin 256, x (ix3 g i r)
    * weight (q (ix2 (packedRow g r) c)) (r.val % 2) ((s (ix2 g c)).extractLsb' (16 * (r.val % 2)) 16)

/-- Row `i`, column `c` of the projection. -/
def spreadProj {n : ℕ} (x : Shape.Idx ⟨3, ![56, 32, 256]⟩ → EReal) (q : Shape.Idx ⟨2, ![7168, n]⟩ → BitVec 8)
    (s : Shape.Idx ⟨2, ![56, n]⟩ → BitVec 32) (i : Fin 32) (c : Fin n) : EReal :=
  ∑ g : Fin 56, groupSum x q s i c g

end Cert.Int4

namespace Cert.KernelIdeal.Body

open Cert.KernelIdeal Cert.KernelIdeal.Gen Idealize.ShloMosaic Idealize.ShloMosaic.ValueIdx Cert.Int4

/-- Row `p` of group `g`'s packed weights is row `128 g + p` of the block. -/
theorem ldQ_apply (q : Vec Ideal S7168x256 .i8) (g : ℕ) (h : g < 56) (p : Fin 128) (j : Fin 256) :
    ldQ q g h (ix2 p j) = q (ix2 (⟨g * 128 + p.val, by omega⟩ : Fin 7168) j) := by
  unfold ldQ
  rw [View.ld_unit]
  exact extractStridedSlice_apply _ _ _ _ _ (fun a => by
    fin_cases a
    · rfl
    · exact (Nat.zero_add _).symm)

/-- Group `g`'s scale words are row `g` of the block. -/
theorem ldS_apply (s : Vec Ideal S56x256 .i32) (g : ℕ) (h : g < 56) (j : Fin 256) :
    ldS s g h (ix2 (0 : Fin 1) j) = s (ix2 (⟨g, h⟩ : Fin 56) j) := by
  unfold ldS
  rw [View.ld_unit]
  exact extractStridedSlice_apply _ _ _ _ _ (fun a => by
    fin_cases a
    · rfl
    · exact (Nat.zero_add _).symm)

/-- Group `g`'s activations are slab `g` of the array. -/
theorem ldX_apply (x : Vec Ideal S56x32x256 .bf16) (g : ℕ) (h : g < 56) (i : Fin 32) (r : Fin 256) :
    ldX x g h (ix3 (0 : Fin 1) i r) = x (ix3 (⟨g, h⟩ : Fin 56) i r) := by
  unfold ldX
  rw [View.ld_unit]
  exact extractStridedSlice_apply _ _ _ _ _ (fun a => by
    fin_cases a
    · rfl
    · exact (Nat.zero_add _).symm
    · exact (Nat.zero_add _).symm)

/-- One step adds the group's contribution. -/
theorem step_group (acc : FVec Ideal S32x256 .f32) (x0 : Vec Ideal S56x32x256 .bf16) (q : Vec Ideal S7168x256 .i8)
    (s : Vec Ideal S56x256 .i32) (g : ℕ) (h : g < 56) (i : Fin 32) (j : Fin 256) :
    step acc (ldQ q g h) (ldS s g h) (ldX x0 g h) (ix2 i j) = acc (ix2 i j) + groupSum x0 q s i j ⟨g, h⟩ := by
  rw [step_apply]
  congr 1
  refine Finset.sum_congr rfl fun r _ => ?_
  have hr := r.isLt
  rw [weights_apply _ _ r j (⟨r.val / 2, by omega⟩ : Fin 128) rfl, ldX_apply, ldQ_apply, ldS_apply]
  rfl

/-- The accumulator after `n` groups is the sum of their contributions. -/
theorem proj_apply (x0 : Vec Ideal S56x32x256 .bf16) (q : Vec Ideal S7168x256 .i8) (s : Vec Ideal S56x256 .i32)
    (i : Fin 32) (j : Fin 256) (n : ℕ) (h : n ≤ 56) :
    proj x0 q s n h (ix2 i j) = ∑ g : Fin n, groupSum x0 q s i j (Fin.castLE h g) := by
  induction n with
  | zero => exact Ideal.ofBits_zero_f32
  | succ n ih =>
    show step _ _ _ _ (ix2 i j) = _
    rw [step_group, ih, Fin.sum_univ_castSucc]
    rfl

/-- What a grid point writes at row `i`, column `j` of its block. -/
theorem gated_apply (x0 : Vec Ideal S56x32x256 .bf16) (x1 : Vec Ideal S7168x256 .i8) (x2 : Vec Ideal S56x256 .i32)
    (x3 : Vec Ideal S7168x256 .i8) (x4 : Vec Ideal S56x256 .i32) (i : Fin 32) (j : Fin 256) :
    gated (proj x0 x1 x2 56 (Nat.le_refl _)) (proj x0 x3 x4 56 (Nat.le_refl _)) (ix2 i j)
      = swiglu (spreadProj x0 x1 x2 i j) (spreadProj x0 x3 x4 i j) := by
  show swiglu (proj x0 x1 x2 56 _ (ix2 i j)) (proj x0 x3 x4 56 _ (ix2 i j)) = _
  rw [proj_apply, proj_apply]
  rfl

end Cert.KernelIdeal.Body

end
-- ==== Proof.Array.lean ====
/-
  What the kernel's output array holds after the whole grid: the 16 column blocks tile it, and the block at each point
  is the block of one function of the arrays the kernel is given.
-/
module

public import proofs.«01_k».proof.Proof.Block

@[expose] public section

noncomputable section

namespace Cert.KernelIdeal.Body

open Cert.KernelIdeal Cert.KernelIdeal.Gen Idealize.ShloMosaic Idealize.ShloMosaic.TcCoe Idealize.SL.Sem
open Idealize.ShloMosaic.ValueIdx Cert.Int4
open Idealize.ShloMosaic.Pipeline (Dat)

variable (m : (ℓ : Loc nD τ sig) → Buf (Elt Ideal) ℓ)

/-- Column `j` of point `t`'s block is column `256 t + j` of the array. -/
def col (t : Fin cfg0.N) (j : Fin 256) : Fin 4096 :=
  ⟨t.val * 256 + j.val, by have := t.isLt; have h : cfg0.N = 16 := N_0; omega⟩

/-- The two weight windows, the two scale windows and the output window take column block `t` at point `t`; the activations
    are taken whole. -/
theorem index0 : ∀ t : Fin grid0.N, win0_0.index t 0 = 0 ∧ win0_0.index t 1 = 0 ∧ win0_0.index t 2 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel
theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel

/-- The array position of a block's element, axis by axis: the block index times the block's size plus the element's own
    coordinate. -/
theorem emb_eq (w : Pipeline.Window sig grid0) (hk : w.kind = .blocked) (t : Fin grid0.N)
    (y : (w.xblock (grid0.coords t)).Idx) (z : w.shape.Idx) (h : ∀ a, (z a : ℕ) = w.index t a * w.size a + y a) :
    (w.rect t).emb y = z :=
  funext fun a => Fin.ext ((w.rect_emb_val t y a hk).trans (h a).symm)

/-- The activations' block is the whole array at every point. -/
theorem iblk0_apply (c : Dev nD) (t : Fin cfg0.N) (g : Fin 56) (i : Fin 32) (r : Fin 256) :
    iblk m c 0 t (ix3 g i r) = V m c main_v11 (ix3 g i r) := by
  refine congrArg (V m c main_v11) (emb_eq win0_0 rfl t _ _ fun a => ?_)
  fin_cases a
  · exact (by rw [(index0 t).1]; omega : g.val = win0_0.index t 0 * 56 + g.val)
  · exact (by rw [(index0 t).2.1]; omega : i.val = win0_0.index t 1 * 32 + i.val)
  · exact (by rw [(index0 t).2.2]; omega : r.val = win0_0.index t 2 * 256 + r.val)

/-- The gate weights' block holds columns `256 t …` of their array. -/
theorem iblk1_apply (c : Dev nD) (t : Fin cfg0.N) (k : Fin 7168) (j : Fin 256) :
    iblk m c 1 t (ix2 k j) = V m c main_arg1 (ix2 k (col t j)) := by
  refine congrArg (V m c main_arg1) (emb_eq win0_1 rfl t _ _ fun a => ?_)
  fin_cases a
  · exact (by rw [(index1 t).1]; omega : k.val = win0_1.index t 0 * 7168 + k.val)
  · exact (by rw [(index1 t).2] : t.val * 256 + j.val = win0_1.index t 1 * 256 + j.val)

/-- The gate scales' block holds columns `256 t …` of their array. -/
theorem iblk2_apply (c : Dev nD) (t : Fin cfg0.N) (k : Fin 56) (j : Fin 256) :
    iblk m c 2 t (ix2 k j) = V m c main_v13 (ix2 k (col t j)) := by
  refine congrArg (V m c main_v13) (emb_eq win0_2 rfl t _ _ fun a => ?_)
  fin_cases a
  · exact (by rw [(index2 t).1]; omega : k.val = win0_2.index t 0 * 56 + k.val)
  · exact (by rw [(index2 t).2] : t.val * 256 + j.val = win0_2.index t 1 * 256 + j.val)

/-- The up weights' block holds columns `256 t …` of their array. -/
theorem iblk3_apply (c : Dev nD) (t : Fin cfg0.N) (k : Fin 7168) (j : Fin 256) :
    iblk m c 3 t (ix2 k j) = V m c main_arg3 (ix2 k (col t j)) := by
  refine congrArg (V m c main_arg3) (emb_eq win0_3 rfl t _ _ fun a => ?_)
  fin_cases a
  · exact (by rw [(index3 t).1]; omega : k.val = win0_3.index t 0 * 7168 + k.val)
  · exact (by rw [(index3 t).2] : t.val * 256 + j.val = win0_3.index t 1 * 256 + j.val)

/-- The up scales' block holds columns `256 t …` of their array. -/
theorem iblk4_apply (c : Dev nD) (t : Fin cfg0.N) (k : Fin 56) (j : Fin 256) :
    iblk m c 4 t (ix2 k j) = V m c main_v15 (ix2 k (col t j)) := by
  refine congrArg (V m c main_v15) (emb_eq win0_4 rfl t _ _ fun a => ?_)
  fin_cases a
  · exact (by rw [(index4 t).1]; omega : k.val = win0_4.index t 0 * 56 + k.val)
  · exact (by rw [(index4 t).2] : t.val * 256 + j.val = win0_4.index t 1 * 256 + j.val)

/-- The output array as one function of the arrays the kernel is given: at row `i`, column `j`, the gated product of the two
    projections there. -/
def hidden (c : Dev nD) : Buf (Elt Ideal) ((c : Thread nD τ).loc main_v16) := fun y : S32x4096.Idx =>
  swiglu (spreadProj (V m c main_v11) (V m c main_arg1) (V m c main_v13) (y 0) (y 1))
    (spreadProj (V m c main_v11) (V m c main_arg3) (V m c main_v15) (y 0) (y 1))

/-- A projection of blocks is the projection of the arrays, at the block's column. -/
theorem spreadProj_block {x x' : Shape.Idx ⟨3, ![56, 32, 256]⟩ → EReal} {q : Shape.Idx ⟨2, ![7168, 256]⟩ → BitVec 8}
    {q' : Shape.Idx ⟨2, ![7168, 4096]⟩ → BitVec 8} {s : Shape.Idx ⟨2, ![56, 256]⟩ → BitVec 32}
    {s' : Shape.Idx ⟨2, ![56, 4096]⟩ → BitVec 32} {j : Fin 256} {c : Fin 4096}
    (hx : ∀ g i r, x (ix3 g i r) = x' (ix3 g i r)) (hq : ∀ k, q (ix2 k j) = q' (ix2 k c))
    (hs : ∀ g, s (ix2 g j) = s' (ix2 g c)) (i : Fin 32) : spreadProj x q s i j = spreadProj x' q' s' i c :=
  Finset.sum_congr rfl fun g _ => Finset.sum_congr rfl fun r _ => by rw [hx, hq, hs]

/-- The offsets of the store of a whole block are zero. -/
theorem hz : (![0, 0] : Fin 2 → Nat) = fun _ => 0 := funext fun a => by fin_cases a <;> rfl

/-- Point `t` writes back block `t` of `hidden`. -/
theorem flushed_eq (c : Dev nD) (t : Fin cfg0.N) :
    (dats m 0 c).flushed 5 t = (win0_5.blk t).view.read (Elt Ideal) (hidden m c) := by
  show (cfg0.win 5).cut (grid0.coords t) ((dats m 0 c).after 5 t) = _
  rw [after0_5, out_eq, View.canon_unit_zero hz]
  funext y
  obtain ⟨i, j, rfl⟩ : ∃ (i : Fin 32) (j : Fin 256), y = ix2 i j := ⟨y 0, y 1, eq_ix2 y⟩
  have e : (win0_5.rect t).emb (ix2 i j) = ix2 i (col t j) := emb_eq win0_5 rfl t _ _ fun a => by
    fin_cases a
    · exact (by rw [(index5 t).1]; omega : i.val = win0_5.index t 0 * 32 + i.val)
    · exact (by rw [(index5 t).2] : t.val * 256 + j.val = win0_5.index t 1 * 256 + j.val)
  refine (gated_apply _ _ _ _ _ i j).trans ?_
  show _ = hidden m c ((win0_5.rect t).emb (ix2 i j))
  rw [e]
  show swiglu _ _ = swiglu (spreadProj _ _ _ i (col t j)) (spreadProj _ _ _ i (col t j))
  rw [spreadProj_block (iblk0_apply m c t) (iblk1_apply m c t · j) (iblk2_apply m c t · j),
    spreadProj_block (iblk0_apply m c t) (iblk3_apply m c t · j) (iblk4_apply m c t · j)]

/-- An index of the output array is in point `t`'s block when its column is one of the block's 256. -/
theorem mem_blk (t : Fin cfg0.N) (y : S32x4096.Idx) (h : t.val = (y 1).val / 256) :
    y ∈ ((cfg0.win 5).blk t).view.set := by
  show y ∈ ((View.whole main_v16).slice (win0_5.rect t)).set
  rw [View.set_slice_whole, Rect.mem_set_unit]
  have h0 : (y 0).val < 32 := (y 0).isLt
  intro a
  fin_cases a
  · show win0_5.index t 0 * 32 ≤ (y 0).val ∧ (y 0).val < win0_5.index t 0 * 32 + 32
    rw [(index5 t).1]; omega
  · show win0_5.index t 1 * 256 ≤ (y 1).val ∧ (y 1).val < win0_5.index t 1 * 256 + 256
    rw [(index5 t).2]; omega

/-- The blocks cover the array. -/
theorem cover (y : S32x4096.Idx) : ∃ t : Fin cfg0.N, (cfg0.win 5).flush t = true ∧ y ∈ ((cfg0.win 5).blk t).view.set := by
  have h1 : (y 1).val < 4096 := (y 1).isLt
  have hN : cfg0.N = 16 := N_0
  exact ⟨⟨(y 1).val / 256, by omega⟩, flush0_5 _, mem_blk _ y rfl⟩

/-- So the output array ends holding `hidden`. -/
theorem final (c : Dev nD) : (dats m 0 c).arrAt 5 cfg0.N = hidden m c :=
  (dats m 0 c).arrAt_eq_of_cover 5 (hidden m c) (fun t _ => flushed_eq m c t) cover

end Cert.KernelIdeal.Body

end
-- ==== Proof.Layout.lean ====
/-
  Two arrays interleaved along a new last axis, read at an index: the host lines around the kernel and the reference
  both lay out their halves this way.
-/
module

public import proofs.«01_k».proof.Proof.Group

@[expose] public section

noncomputable section

namespace Cert.Int4

open Idealize.ShloMosaic Idealize.ShloMosaic.ValueIdx

variable {α : Type}

/-- Two (16, 4096) arrays interleaved along their columns: column `n` is column `n / 2` of the first array when `n` is
    even and of the second when it is odd. -/
theorem interleave_apply (a b : Shape.Idx ⟨2, ![16, 4096]⟩ → α)
    (hb : (⟨2, ![16, 4096]⟩ : Shape).BroadcastsInDim ⟨3, ![16, 4096, 1]⟩ ![0, 1])
    (hc : Shape.Concatenates [⟨3, ![16, 4096, 1]⟩, ⟨3, ![16, 4096, 1]⟩] ⟨3, ![16, 4096, 2]⟩ 2)
    (hs : (⟨3, ![16, 4096, 2]⟩ : Shape).ShapeCasts ⟨3, ![16, 1, 8192]⟩)
    (i : Fin 16) (z : Fin 1) (n : Fin 8192) (j : Fin 4096) (hj : j.val = n.val / 2) :
    shapeCast ⟨3, ![16, 1, 8192]⟩ (concatenate ⟨3, ![16, 4096, 2]⟩ 2
        [⟨⟨3, ![16, 4096, 1]⟩, broadcastInDim ⟨3, ![16, 4096, 1]⟩ ![0, 1] hb a⟩,
         ⟨⟨3, ![16, 4096, 1]⟩, broadcastInDim ⟨3, ![16, 4096, 1]⟩ ![0, 1] hb b⟩] hc) hs (ix3 i z n)
      = if n.val % 2 = 0 then a (ix2 i j) else b (ix2 i j) := by
  have hz : z.val = 0 := by omega
  let p : Fin 2 := ⟨n.val % 2, Nat.mod_lt _ Nat.two_pos⟩
  rw [shapeCast_apply _ _ (ix3 i z n) (ix3 i j p) (by
    rw [rowMajor_ix3, rowMajor_ix3]
    show (i.val * 4096 + j.val) * 2 + n.val % 2 = (i.val * 1 + z.val) * 8192 + n.val
    omega)]
  have read (x : Shape.Idx ⟨2, ![16, 4096]⟩ → α) :
      broadcastInDim ⟨3, ![16, 4096, 1]⟩ ![0, 1] hb x (ix3 i j (0 : Fin 1)) = x (ix2 i j) :=
    broadcastInDim_apply _ _ _ _ _ (fun d => by fin_cases d <;> rfl)
  split
  · next h =>
    rw [← read a]
    exact concatenate_pair_apply_left _ _ _ hc (ix3 i j p) rfl (ix3 i j (0 : Fin 1)) (fun d => by
      fin_cases d
      · rfl
      · rfl
      · exact h.symm)
  · next h =>
    rw [← read b]
    exact concatenate_pair_apply_right _ _ _ hc (ix3 i j p) rfl rfl (ix3 i j (0 : Fin 1)) (fun d hd => by
      fin_cases d
      · rfl
      · rfl
      · exact absurd rfl hd) (by show 0 + 1 = n.val % 2; omega)

/-- The same of two (56, 16, 128) arrays. -/
theorem interleave3_apply (a b : Shape.Idx ⟨3, ![56, 16, 128]⟩ → α)
    (hb : (⟨3, ![56, 16, 128]⟩ : Shape).BroadcastsInDim ⟨4, ![56, 16, 128, 1]⟩ ![0, 1, 2])
    (hc : Shape.Concatenates [⟨4, ![56, 16, 128, 1]⟩, ⟨4, ![56, 16, 128, 1]⟩] ⟨4, ![56, 16, 128, 2]⟩ 3)
    (hs : (⟨4, ![56, 16, 128, 2]⟩ : Shape).ShapeCasts ⟨3, ![56, 16, 256]⟩)
    (g : Fin 56) (i : Fin 16) (r : Fin 256) (t : Fin 128) (ht : t.val = r.val / 2) :
    shapeCast ⟨3, ![56, 16, 256]⟩ (concatenate ⟨4, ![56, 16, 128, 2]⟩ 3
        [⟨⟨4, ![56, 16, 128, 1]⟩, broadcastInDim ⟨4, ![56, 16, 128, 1]⟩ ![0, 1, 2] hb a⟩,
         ⟨⟨4, ![56, 16, 128, 1]⟩, broadcastInDim ⟨4, ![56, 16, 128, 1]⟩ ![0, 1, 2] hb b⟩] hc) hs (ix3 g i r)
      = if r.val % 2 = 0 then a (ix3 g i t) else b (ix3 g i t) := by
  let p : Fin 2 := ⟨r.val % 2, Nat.mod_lt _ Nat.two_pos⟩
  rw [shapeCast_apply _ _ (ix3 g i r) (ix4 g i t p) (by
    rw [rowMajor_ix3, rowMajor_ix4]
    show ((g.val * 16 + i.val) * 128 + t.val) * 2 + r.val % 2 = (g.val * 16 + i.val) * 256 + r.val
    omega)]
  have read (x : Shape.Idx ⟨3, ![56, 16, 128]⟩ → α) :
      broadcastInDim ⟨4, ![56, 16, 128, 1]⟩ ![0, 1, 2] hb x (ix4 g i t (0 : Fin 1)) = x (ix3 g i t) :=
    broadcastInDim_apply _ _ _ _ _ (fun d => by fin_cases d <;> rfl)
  split
  · next h =>
    rw [← read a]
    exact concatenate_pair_apply_left _ _ _ hc (ix4 g i t p) rfl (ix4 g i t (0 : Fin 1)) (fun d => by
      fin_cases d
      · rfl
      · rfl
      · rfl
      · exact h.symm)
  · next h =>
    rw [← read b]
    exact concatenate_pair_apply_right _ _ _ hc (ix4 g i t p) rfl rfl (ix4 g i t (0 : Fin 1)) (fun d hd => by
      fin_cases d
      · rfl
      · rfl
      · rfl
      · exact absurd rfl hd) (by show 0 + 1 = r.val % 2; omega)

end Cert.Int4

end
-- ==== Proof.Host.lean ====
/-
  The host lines around the kernel, read at an index: the activations spread over even and odd rows, the scale pairs
  packed into words, and the two halves of the output array interleaved into the result.
-/
module

public import proofs.«01_k».proof.Proof.Array
public import proofs.«01_k».proof.Proof.Layout
public import Idealize.ShloMosaic.Lib.BitcastConvert
public import Idealize.ShloMosaic.Lib.Claim

@[expose] public section

noncomputable section

namespace Cert.KernelIdeal.Body

open Cert.KernelIdeal Cert.KernelIdeal.Gen Idealize.ShloMosaic Idealize.ShloMosaic.TcCoe Idealize.SL.Sem
open Idealize.ShloMosaic.ValueIdx Cert.Int4

variable (m : (ℓ : Loc nD τ sig) → Buf (Elt Ideal) ℓ)

/-- The activations cut into 56 groups of 128 features, group first. -/
def slabs (x : Vec Ideal S16x1x7168 .bf16) : Vec Ideal S56x16x128 .bf16 :=
  transpose S56x16x128 [1, 0, 2] (shapeCast S16x56x128 x shapeCasts_S16x1x7168_S16x56x128)
    transposes_S16x56x128_S56x16x128_1_0_2

/-- An array of zeros of that shape. -/
def zeros : Vec Ideal S56x16x128 .bf16 :=
  broadcastInDim S56x16x128 ![] bcast_S_S56x16x128 (constant S_ .bf16 0x0000#16 : FVec Ideal S_ .bf16)

/-- Two arrays of that shape interleaved along the features. -/
def pairs (a b : Vec Ideal S56x16x128 .bf16) : Vec Ideal S56x16x256 .bf16 :=
  shapeCast S56x16x256
    (concatenate S56x16x128x2 3
      [⟨S56x16x128x1, broadcastInDim S56x16x128x1 ![0, 1, 2] bcast_S56x16x128_S56x16x128x1_0_1_2 a⟩,
       ⟨S56x16x128x1, broadcastInDim S56x16x128x1 ![0, 1, 2] bcast_S56x16x128_S56x16x128x1_0_1_2 b⟩]
      concatenates_S56x16x128x1_S56x16x128x1_S56x16x128x2_d3)
    shapeCasts_S56x16x128x2_S56x16x256

/-- The spread activations: rows 0 to 15 hold the activations at even positions, rows 16 to 31 at odd positions. -/
def spread (x : Vec Ideal S16x1x7168 .bf16) : Vec Ideal S56x32x256 .bf16 :=
  concatenate S56x32x256 1 [⟨S56x16x256, pairs (slabs x) zeros⟩, ⟨S56x16x256, pairs zeros (slabs x)⟩]
    concatenates_S56x16x256_S56x16x256_S56x32x256_d1

/-- The scales packed in pairs into 32-bit words. -/
def words (s : Vec Ideal S56x8192 .i16) : Vec Ideal S56x4096 .i32 :=
  Host.bitcastConvertWiden S56x4096 32 (shapeCast S56x4096x2 s shapeCasts_S56x8192_S56x4096x2) splits_S56x4096_w32_S56x4096x2_w16

/-- The result from the output array: its upper and lower 16 rows interleaved along the columns. -/
def result (h : Vec Ideal S32x4096 .bf16) : Vec Ideal S16x1x8192 .bf16 :=
  shapeCast S16x1x8192
    (concatenate S16x4096x2 2
      [⟨S16x4096x1, broadcastInDim S16x4096x1 ![0, 1] bcast_S16x4096_S16x4096x1_0_1
          (extractStridedSlice S16x4096 ![0, 0] h slices_S32x4096_S16x4096_0_0)⟩,
       ⟨S16x4096x1, broadcastInDim S16x4096x1 ![0, 1] bcast_S16x4096_S16x4096x1_0_1
          (extractStridedSlice S16x4096 ![16, 0] h slices_S32x4096_S16x4096_16_0)⟩]
      concatenates_S16x4096x1_S16x4096x1_S16x4096x2_d2)
    shapeCasts_S16x4096x2_S16x1x8192

/-- The kernel is given the spread activations of the first argument, -/
theorem V_spread (c : Dev nD) : V m c main_v11 = spread (m ((c : Thread nD τ).loc main_arg0)) := by
  entry_read
  rfl
/-- the words of the gate scales, -/
theorem V_gate_words (c : Dev nD) : V m c main_v13 = words (m ((c : Thread nD τ).loc main_arg2)) := by
  entry_read
  rfl
/-- and the words of the up scales. -/
theorem V_up_words (c : Dev nD) : V m c main_v15 = words (m ((c : Thread nD τ).loc main_arg4)) := by
  entry_read
  rfl

/-- Element `t` of row `i` in group `g` is feature `128 g + t` of that row. -/
theorem slabs_apply (x : Vec Ideal S16x1x7168 .bf16) (g : Fin 56) (i : Fin 16) (t : Fin 128) (k : Fin 7168)
    (hk : k.val = g.val * 128 + t.val) : slabs x (ix3 g i t) = x (ix3 i (0 : Fin 1) k) := by
  unfold slabs
  rw [transpose_apply _ _ _ (ix3 g i t) (ix3 i g t) (fun d => by fin_cases d <;> rfl),
    shapeCast_apply _ _ (ix3 i g t) (ix3 i (0 : Fin 1) k) (by
      rw [rowMajor_ix3, rowMajor_ix3]
      show (i.val * 1 + 0) * 7168 + k.val = (i.val * 56 + g.val) * 128 + t.val
      omega)]

/-- The zero array holds zero at every index. -/
theorem zeros_apply (y : S56x16x128.Idx) : zeros y = 0 := Ideal.ofBits_zero_bf16

/-- Row `16 p + i` of the spread activations holds, at position `r` of group `g`, feature `128 g + r / 2` of row `i`
    when `r` has parity `p`, and zero otherwise. -/
theorem spread_apply (x : Vec Ideal S16x1x7168 .bf16) (g : Fin 56) (i : Fin 16) (p : Fin 2) (i' : Fin 32)
    (hi : i'.val = 16 * p.val + i.val) (r : Fin 256) (k : Fin 7168) (hk : k.val = g.val * 128 + r.val / 2) :
    spread x (ix3 g i' r) = if r.val % 2 = p.val then x (ix3 i (0 : Fin 1) k) else 0 := by
  have hr := r.isLt
  let t : Fin 128 := ⟨r.val / 2, by omega⟩
  have rd (a b : Vec Ideal S56x16x128 .bf16) :
      pairs a b (ix3 g i r) = if r.val % 2 = 0 then a (ix3 g i t) else b (ix3 g i t) :=
    interleave3_apply a b _ _ _ g i r t rfl
  have hx := slabs_apply x g i t k hk
  unfold spread
  obtain hp | hp : p = 0 ∨ p = 1 := by omega
  · subst hp
    refine (concatenate_pair_apply_left (s₁ := S56x16x256) _ _ _ _ (ix3 g i' r) rfl (ix3 g i r) (fun d => ?_)).trans ?_
    · fin_cases d
      · rfl
      · show i.val = i'.val; simpa using hi.symm
      · rfl
    · rw [rd, hx, zeros_apply]; rfl
  · subst hp
    refine (concatenate_pair_apply_right (s₁ := S56x16x256) (s₂ := S56x16x256) _ _ _ _ (ix3 g i' r) rfl rfl (ix3 g i r) (fun d hd => ?_) ?_).trans ?_
    · fin_cases d
      · rfl
      · exact absurd rfl hd
      · rfl
    · show i.val + 16 = i'.val
      have : i'.val = 16 * 1 + i.val := hi
      omega
    · rw [rd, hx, zeros_apply]
      show _ = if r.val % 2 = 1 then _ else _
      split <;> split <;> first | rfl | omega

/-- Half `p` of the scale word at column `j` is the scale at column `2 j + p`. -/
theorem words_apply (s : Vec Ideal S56x8192 .i16) (g : Fin 56) (j : Fin 4096) (p : Fin 2) (n : Fin 8192)
    (hn : n.val = 2 * j.val + p.val) : (words s (ix2 g j)).extractLsb' (16 * p.val) 16 = s (ix2 g n) := by
  have rd (q : Fin 2) (l : Fin 8192) (hl : l.val = 2 * j.val + q.val) :
      shapeCast S56x4096x2 s shapeCasts_S56x8192_S56x4096x2 (ix3 g j q) = s (ix2 g l) :=
    shapeCast_apply _ _ _ _ (by
      rw [rowMajor_ix3, rowMajor_ix2]
      show g.val * 8192 + l.val = (g.val * 4096 + j.val) * 2 + q.val
      omega)
  have e : words s (ix2 g j) = s (ix2 g ⟨2 * j.val + 1, by omega⟩) ++ s (ix2 g ⟨2 * j.val, by omega⟩) := by
    unfold words
    rw [Host.bitcastConvertWiden_apply_16_32, ← rd 1 ⟨2 * j.val + 1, by omega⟩ rfl, ← rd 0 ⟨2 * j.val, by omega⟩ rfl]
    congr 2 <;> (funext d; fin_cases d <;> rfl)
  rw [e]
  obtain hp | hp : p = 0 ∨ p = 1 := by omega
  · subst hp
    rw [show n = (⟨2 * j.val, by omega⟩ : Fin 8192) from Fin.ext hn]
    exact BitVec.extractLsb'_append_eq_right
  · subst hp
    rw [show n = (⟨2 * j.val + 1, by omega⟩ : Fin 8192) from Fin.ext hn]
    exact BitVec.extractLsb'_append_eq_left

/-- Column `n` of row `i` of the result is row `16 (n % 2) + i`, column `n / 2` of the output array. -/
theorem result_apply (h : Vec Ideal S32x4096 .bf16) (i : Fin 16) (z : Fin 1) (n : Fin 8192) (i' : Fin 32) (j : Fin 4096)
    (hi : i'.val = 16 * (n.val % 2) + i.val) (hj : j.val = n.val / 2) : result h (ix3 i z n) = h (ix2 i' j) := by
  refine (interleave_apply _ _ _ _ _ i z n j hj).trans ?_
  split
  · next hn =>
    exact extractStridedSlice_apply _ _ _ _ _ (fun d => by
      fin_cases d
      · show i'.val = 0 + i.val; omega
      · exact (Nat.zero_add _).symm)
  · next hn =>
    exact extractStridedSlice_apply _ _ _ _ _ (fun d => by
      fin_cases d
      · show i'.val = 16 + i.val; omega
      · exact (Nat.zero_add _).symm)

/-- After the whole program the result buffer holds `result` of the output array. -/
theorem tail_eq (c : Dev nD) :
    Pipeline.afterTail₀ cfgs (dats m) 0 (V0 m) [hostOps1] c main_v22 = result (hidden m c) := by
  have e : Pipeline.withArrays (cfgs 0).spec c (V0 m c) (fun w => (dats m 0 c).arrAt w (cfgs 0).N) (Proc.devRef .tc main_v16)
      = hidden m c :=
    (Pipeline.withArrays_arr (cfgs 0).spec launch0.win.arr_inj c (V0 m c) (fun w => (dats m 0 c).arrAt w (cfgs 0).N) 5).trans
      (final m c)
  unfold Pipeline.afterTail₀
  rw [← e]
  entry_read
  rfl

end Cert.KernelIdeal.Body

end
-- ==== Proof.Spec.lean ====
/-
  The mathematics both programs compute: two projections with dequantised weights and their gated product.
-/
module

public import proofs.«01_k».proof.Proof.Block

@[expose] public section

noncomputable section

namespace Cert.Int4

open Idealize.ShloMosaic Idealize.ShloMosaic.ValueIdx

/-- The packed column and the scale group of an output column and an input feature. -/
def packedCol (n : Fin 8192) : Fin 4096 := ⟨n.val / 2, by omega⟩
def group (k : Fin 7168) : Fin 56 := ⟨k.val / 128, by omega⟩

/-- Output column `n` of row `i` of a projection: over the 7168 input features, the activation times the dequantised
    weight, whose code is number `n % 2` in the packed byte of column `n / 2` and whose scale is that of the feature's
    group of 128 in column `n`. -/
def plainProj (x : Shape.Idx ⟨3, ![16, 1, 7168]⟩ → EReal) (q : Shape.Idx ⟨2, ![7168, 4096]⟩ → BitVec 8)
    (s : Shape.Idx ⟨2, ![56, 8192]⟩ → BitVec 16) (i : Fin 16) (n : Fin 8192) : EReal :=
  ∑ k : Fin 7168, x (ix3 i (0 : Fin 1) k) * weight (q (ix2 k (packedCol n))) (n.val % 2) (s (ix2 (group k) n))

/-- The result: the gated product of the gate projection and the up projection at every row and column. -/
def spec (x : Shape.Idx ⟨3, ![16, 1, 7168]⟩ → EReal) (qg : Shape.Idx ⟨2, ![7168, 4096]⟩ → BitVec 8)
    (sg : Shape.Idx ⟨2, ![56, 8192]⟩ → BitVec 16) (qu : Shape.Idx ⟨2, ![7168, 4096]⟩ → BitVec 8)
    (su : Shape.Idx ⟨2, ![56, 8192]⟩ → BitVec 16) : Shape.Idx ⟨3, ![16, 1, 8192]⟩ → EReal := fun y =>
  swiglu (plainProj x qg sg (y 0) (y 2)) (plainProj x qu su (y 0) (y 2))

/-- A sum over `a * b` positions as a sum over `a` runs of `b`. -/
theorem sum_runs {M : Type} [AddCommMonoid M] (a b : ℕ) (f : Fin (a * b) → M) :
    ∑ k, f k = ∑ g : Fin a, ∑ t : Fin b, f (finProdFinEquiv (g, t)) := by
  rw [← Equiv.sum_comp finProdFinEquiv f, Fintype.sum_prod_type]

end Cert.Int4

end
-- ==== Proof.Equation.lean ====
/-
  The kernel's double sum over spread activations is the plain sum over input features, so the kernel's result is the
  specified one.
-/
module

public import proofs.«01_k».proof.Proof.Host
public import proofs.«01_k».proof.Proof.Spec

@[expose] public section

noncomputable section

namespace Cert.KernelIdeal.Body

open Cert.KernelIdeal Cert.KernelIdeal.Gen Idealize.ShloMosaic Idealize.ShloMosaic.TcCoe Idealize.SL.Sem
open Idealize.ShloMosaic.ValueIdx Cert.Int4

/-- Group `g`'s contribution to row `16 (n % 2) + i`: of each pair of unpacked rows only the one of `n`'s parity meets a
    nonzero activation, which leaves one product for each of the group's 128 features. -/
theorem groupSum_spread (x : Vec Ideal S16x1x7168 .bf16) (q : Vec Ideal S7168x4096 .i8) (s : Vec Ideal S56x8192 .i16)
    (i : Fin 16) (n : Fin 8192) (i' : Fin 32) (hi : i'.val = 16 * (n.val % 2) + i.val) (g : Fin 56) :
    groupSum (spread x) q (words s) i' (packedCol n) g
      = ∑ t : Fin 128, x (ix3 i (0 : Fin 1) (finProdFinEquiv (g, t)))
          * weight (q (ix2 (finProdFinEquiv (g, t)) (packedCol n))) (n.val % 2) (s (ix2 g n)) := by
  let p : Fin 2 := ⟨n.val % 2, Nat.mod_lt _ Nat.two_pos⟩
  unfold groupSum
  refine (sum_runs 128 2 _).trans (Finset.sum_congr rfl fun t _ => ?_)
  have hval (p' : Fin 2) : (finProdFinEquiv (t, p') : Fin (128 * 2)).val = p'.val + 2 * t.val := rfl
  have hrow (p' : Fin 2) : packedRow g (finProdFinEquiv (t, p')) = finProdFinEquiv (g, t) := Fin.ext (by
    show g.val * 128 + (p'.val + 2 * t.val) / 2 = t.val + 128 * g.val
    omega)
  have hpar (p' : Fin 2) : (finProdFinEquiv (t, p') : Fin (128 * 2)).val % 2 = p'.val := by rw [hval]; omega
  have hterm (p' : Fin 2) :
      spread x (ix3 g i' (finProdFinEquiv (t, p') : Fin (128 * 2)))
          * weight (q (ix2 (packedRow g (finProdFinEquiv (t, p'))) (packedCol n)))
              ((finProdFinEquiv (t, p') : Fin (128 * 2)).val % 2)
              ((words s (ix2 g (packedCol n))).extractLsb' (16 * ((finProdFinEquiv (t, p') : Fin (128 * 2)).val % 2)) 16)
        = if p' = p then x (ix3 i (0 : Fin 1) (finProdFinEquiv (g, t)))
            * weight (q (ix2 (finProdFinEquiv (g, t)) (packedCol n))) (n.val % 2) (s (ix2 g n)) else 0 := by
    rw [hrow, spread_apply x g i p i' hi _ (finProdFinEquiv (g, t)) (by
      rw [hval]; show t.val + 128 * g.val = g.val * 128 + (p'.val + 2 * t.val) / 2; omega), hpar]
    by_cases h : p' = p
    · rw [if_pos (congrArg Fin.val h), if_pos h, h]
      rw [words_apply s g (packedCol n) p n (by show n.val = 2 * (n.val / 2) + n.val % 2; omega)]
    · rw [if_neg (fun e => h (Fin.ext e)), if_neg h, zero_mul]
  refine (Finset.sum_congr rfl fun p' _ => hterm p').trans ?_
  rw [Finset.sum_ite_eq' Finset.univ p, if_pos (Finset.mem_univ _)]

/-- A projection of the spread activations is the plain projection. -/
theorem spreadProj_eq (x : Vec Ideal S16x1x7168 .bf16) (q : Vec Ideal S7168x4096 .i8) (s : Vec Ideal S56x8192 .i16)
    (i : Fin 16) (n : Fin 8192) (i' : Fin 32) (hi : i'.val = 16 * (n.val % 2) + i.val) :
    spreadProj (spread x) q (words s) i' (packedCol n) = plainProj x q s i n := by
  unfold spreadProj plainProj
  refine Eq.trans ?_ (sum_runs 56 128 (fun k : Fin (56 * 128) =>
    x (ix3 i (0 : Fin 1) k) * weight (q (ix2 k (packedCol n))) (n.val % 2) (s (ix2 (group k) n)))).symm
  refine Finset.sum_congr rfl fun g _ => (groupSum_spread x q s i n i' hi g).trans ?_
  refine Finset.sum_congr rfl fun t _ => ?_
  rw [show group (finProdFinEquiv (g, t)) = g from Fin.ext (by
    show (t.val + 128 * g.val) / 128 = g.val
    omega)]

variable (m : (ℓ : Loc nD τ sig) → Buf (Elt Ideal) ℓ) (ρ : Dev nD → PrngReg)

/-- The kernel's result buffer holds the specified result. -/
theorem result_eq (c : Dev nD) :
    result (hidden m c)
      = spec (m ((c : Thread nD τ).loc main_arg0)) (m ((c : Thread nD τ).loc main_arg1)) (m ((c : Thread nD τ).loc main_arg2))
          (m ((c : Thread nD τ).loc main_arg3)) (m ((c : Thread nD τ).loc main_arg4)) := by
  funext y
  obtain ⟨i, z, n, rfl⟩ : ∃ (i : Fin 16) (z : Fin 1) (n : Fin 8192), y = ix3 i z n := ⟨y 0, y 1, y 2, eq_ix3 y⟩
  let i' : Fin 32 := ⟨16 * (n.val % 2) + i.val, by omega⟩
  rw [result_apply _ i z n i' (packedCol n) rfl rfl]
  show swiglu (spreadProj (V m c main_v11) (V m c main_arg1) (V m c main_v13) i' (packedCol n))
    (spreadProj (V m c main_v11) (V m c main_arg3) (V m c main_v15) i' (packedCol n)) = _
  rw [V_spread, V_gate_words, V_up_words, V_main_arg1, V_main_arg3]
  refine congrArg₂ swiglu (spreadProj_eq _ _ _ i n i' rfl) (spreadProj_eq _ _ _ i n i' rfl)

/-- Every execution of the kernel program ends with the specified result and the arguments unchanged. -/
theorem run : θ_run defs (onTc (τ := τ) (main (F := Ideal))) ⟨m, fun _ => 0, ρ⟩ fun r => ∀ c : Dev nD,
      r.2.mem ((c : Thread nD τ).loc main_v22)
        = spec (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
      ((h c).2 main_v22 (Pipeline.mem_restRefs_of main_v22 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Body

end
-- ==== Proof.Reference.lean ====
/-
  The reference program's result, read at an index: it is the specified result.
-/
module

public import proofs.«01_k».proof.Proof.Layout
public import proofs.«01_k».proof.Proof.Spec
public import proofs.«01_k».proof.Proof.Gen.ReferenceIdeal.Run
public import Idealize.ShloMosaic.Lib.StackMember

@[expose] public section

noncomputable section

namespace Cert.ReferenceIdeal.Plain

open Cert.ReferenceIdeal Cert.ReferenceIdeal.Gen Cert.ReferenceIdeal.Value
open Idealize.ShloMosaic Idealize.ShloMosaic.TcCoe Idealize.SL.Sem Idealize.ShloMosaic.ValueIdx Cert.Int4

/-- The low and the high code of every packed byte, widened to 32 bits. -/
def lowCodes (q : Vec Ideal S7168x4096 .i8) : IVec S7168x4096 32 :=
  andi (extui 32 q natLt_8_32) (broadcastInDim S7168x4096 ![] bcast_S_S7168x4096 (constantI S_ 32 15#32))
def highCodes (q : Vec Ideal S7168x4096 .i8) : IVec S7168x4096 32 :=
  Host.shrui (extui 32 q natLt_8_32) (broadcastInDim S7168x4096 ![] bcast_S_S7168x4096 (constantI S_ 32 4#32))

/-- The scales as a pair per packed column. -/
def scalePairs (s : Vec Ideal S56x8192 .i16) : FVec Ideal S56x4096x2 .bf16 :=
  shapeCast S56x4096x2 (bitcastToFloat (F := Ideal) .bf16 s) shapeCasts_S56x8192_S56x4096x2

/-- The scales of the even and of the odd output columns. -/
def lowScales (s : Vec Ideal S56x8192 .i16) : FVec Ideal S56x4096 .bf16 :=
  shapeCast S56x4096 (extractStridedSlice S56x4096x1 ![0, 0, 0] (scalePairs s) slices_S56x4096x2_S56x4096x1_0_0_0)
    shapeCasts_S56x4096x1_S56x4096
def highScales (s : Vec Ideal S56x8192 .i16) : FVec Ideal S56x4096 .bf16 :=
  shapeCast S56x4096 (extractStridedSlice S56x4096x1 ![0, 0, 1] (scalePairs s) slices_S56x4096x2_S56x4096x1_0_0_1)
    shapeCasts_S56x4096x1_S56x4096

/-- The dequantised weights: code minus eight, times the scale of the row's group. -/
def dequant (q : IVec S7168x4096 32) (s : FVec Ideal S56x4096 .bf16) : FVec Ideal S7168x4096 .bf16 :=
  shapeCast S7168x4096
    (mulf
      (shapeCast S56x128x4096
        (subf (uitofp .bf16 q) (broadcastInDim S7168x4096 ![] bcast_S_S7168x4096 (constant S_ .bf16 0x4100#16 : FVec Ideal S_ .bf16)))
        shapeCasts_S7168x4096_S56x128x4096)
      (broadcastInDim S56x128x4096 ![0, 1, 2] bcast_S56x1x4096_S56x128x4096_0_1_2
        (broadcastInDim S56x1x4096 ![0, 2] bcast_S56x4096_S56x1x4096_0_2 s)))
    shapeCasts_S56x128x4096_S7168x4096

/-- The product of the activations with a weight matrix. -/
def dot (x : Vec Ideal S16x1x7168 .bf16) (w : FVec Ideal S7168x4096 .bf16) : FVec Ideal S16x4096 .f32 :=
  Host.dotGeneral (φ₁ := .bf16) (φ₂ := .bf16) dot_S16x7168_S7168x4096_S16x4096_1_0_0_1_n_n none
    (shapeCast S16x7168 x shapeCasts_S16x1x7168_S16x7168) w

/-- The constant one at every index. -/
def ones : FVec Ideal S16x4096 .f32 :=
  broadcastInDim S16x4096 ![] bcast_S_S16x4096 (constant S_ .f32 0x3F800000#32 : FVec Ideal S_ .f32)

/-- The gated product of a gate and an up projection. -/
def gated (g u : FVec Ideal S16x4096 .f32) : FVec Ideal S16x4096 .bf16 :=
  truncf .bf16 (mulf (mulf g (Host.divf ones (addf ones (Host.exp (Host.negf g))))) u) bitsLt_bf16_f32

variable (m : (ℓ : Loc nD τ sig) → Buf (Elt Ideal) ℓ)

set_option maxRecDepth 8192 in
/-- The reference's result: the gated products of the even columns and of the odd columns, interleaved. -/
theorem res_eq (c : Dev nD) :
    res_out0 (F := Ideal) m c
      = shapeCast S16x1x8192
          (concatenate S16x4096x2 2
            [⟨S16x4096x1, broadcastInDim S16x4096x1 ![0, 1] bcast_S16x4096_S16x4096x1_0_1
                (gated (dot (m ((c : Thread nD τ).loc main_arg0)) (dequant (lowCodes (m ((c : Thread nD τ).loc main_arg1))) (lowScales (m ((c : Thread nD τ).loc main_arg2)))))
                  (dot (m ((c : Thread nD τ).loc main_arg0)) (dequant (lowCodes (m ((c : Thread nD τ).loc main_arg3))) (lowScales (m ((c : Thread nD τ).loc main_arg4))))))⟩,
             ⟨S16x4096x1, broadcastInDim S16x4096x1 ![0, 1] bcast_S16x4096_S16x4096x1_0_1
                (gated (dot (m ((c : Thread nD τ).loc main_arg0)) (dequant (highCodes (m ((c : Thread nD τ).loc main_arg1))) (highScales (m ((c : Thread nD τ).loc main_arg2)))))
                  (dot (m ((c : Thread nD τ).loc main_arg0)) (dequant (highCodes (m ((c : Thread nD τ).loc main_arg3))) (highScales (m ((c : Thread nD τ).loc main_arg4))))))⟩]
            concatenates_S16x4096x1_S16x4096x1_S16x4096x2_d2)
          shapeCasts_S16x4096x2_S16x1x8192 := rfl

/-- The offset of the codes, `0x4100` in bfloat16, is eight. -/
theorem ofBits_eight : Ideal.ofBits .bf16 0x4100#16 = ((8 : ℝ) : EReal) := by
  simp [Ideal.ofBits, Ideal.ieee, -EReal.coe_mul]; norm_num

/-- The array of ones holds one at every index. -/
theorem ones_apply (y : S16x4096.Idx) : ones y = 1 := Ideal.ofBits_one_f32

/-- The scale pair at a column and a place in the pair. -/
theorem scalePairs_apply (s : Vec Ideal S56x8192 .i16) (g : Fin 56) (j : Fin 4096) (p : Fin 2) (n : Fin 8192)
    (hn : n.val = 2 * j.val + p.val) : scalePairs s (ix3 g j p) = Ideal.ofBits .bf16 (s (ix2 g n)) := by
  unfold scalePairs
  rw [shapeCast_apply _ _ (ix3 g j p) (ix2 g n) (by
    rw [rowMajor_ix3, rowMajor_ix2]
    show g.val * 8192 + n.val = (g.val * 4096 + j.val) * 2 + p.val
    omega)]
  rfl

/-- The even columns' scales. -/
theorem lowScales_apply (s : Vec Ideal S56x8192 .i16) (g : Fin 56) (j : Fin 4096) (n : Fin 8192)
    (hn : n.val = 2 * j.val) : lowScales s (ix2 g j) = Ideal.ofBits .bf16 (s (ix2 g n)) := by
  unfold lowScales
  rw [shapeCast_apply _ _ (ix2 g j) (ix3 g j (0 : Fin 1)) (by
      rw [rowMajor_ix3, rowMajor_ix2]
      show (g.val * 4096 + j.val) * 1 + 0 = g.val * 4096 + j.val
      omega),
    extractStridedSlice_apply _ _ _ (ix3 g j (0 : Fin 1)) (ix3 g j (0 : Fin 2)) (fun d => by
      fin_cases d <;> exact (Nat.zero_add _).symm),
    scalePairs_apply s g j 0 n hn]

/-- The odd columns' scales. -/
theorem highScales_apply (s : Vec Ideal S56x8192 .i16) (g : Fin 56) (j : Fin 4096) (n : Fin 8192)
    (hn : n.val = 2 * j.val + 1) : highScales s (ix2 g j) = Ideal.ofBits .bf16 (s (ix2 g n)) := by
  unfold highScales
  rw [shapeCast_apply _ _ (ix2 g j) (ix3 g j (0 : Fin 1)) (by
      rw [rowMajor_ix3, rowMajor_ix2]
      show (g.val * 4096 + j.val) * 1 + 0 = g.val * 4096 + j.val
      omega),
    extractStridedSlice_apply _ _ _ (ix3 g j (0 : Fin 1)) (ix3 g j (1 : Fin 2)) (fun d => by
      fin_cases d
      · exact (Nat.zero_add _).symm
      · exact (Nat.zero_add _).symm
      · rfl),
    scalePairs_apply s g j 1 n hn]

/-- A dequantised weight at an index: the code as a number, minus eight, times the scale of the row's group. -/
theorem dequant_apply (q : IVec S7168x4096 32) (s : FVec Ideal S56x4096 .bf16) (k : Fin 7168) (j : Fin 4096) :
    dequant q s (ix2 k j) = ((((q (ix2 k j)).toNat : ℝ) - 8 : ℝ) : EReal) * s (ix2 (group k) j) := by
  let t : Fin 128 := ⟨k.val % 128, Nat.mod_lt _ (by omega)⟩
  unfold dequant
  rw [shapeCast_apply _ _ (ix2 k j) (ix3 (group k) t j) (by
      rw [rowMajor_ix3, rowMajor_ix2]
      show (k.val / 128 * 128 + k.val % 128) * 4096 + j.val = k.val * 4096 + j.val
      omega),
    mulf_apply,
    shapeCast_apply _ _ (ix3 (group k) t j) (ix2 k j) (by
      rw [rowMajor_ix3, rowMajor_ix2]
      show k.val * 4096 + j.val = (k.val / 128 * 128 + k.val % 128) * 4096 + j.val
      omega),
    broadcastInDim_apply _ _ _ (ix3 (group k) t j) (ix3 (group k) (0 : Fin 1) j) (fun d => by fin_cases d <;> rfl),
    broadcastInDim_apply _ _ _ (ix3 (group k) (0 : Fin 1) j) (ix2 (group k) j) (fun d => by fin_cases d <;> rfl)]
  congr 1
  show (((q (ix2 k j)).toNat : ℝ) : EReal) - Ideal.ofBits .bf16 0x4100#16 = _
  rw [ofBits_eight, EReal.coe_sub]

/-- The dequantised weights of the even columns. -/
theorem low_apply (q : Vec Ideal S7168x4096 .i8) (s : Vec Ideal S56x8192 .i16) (k : Fin 7168) (j : Fin 4096) (n : Fin 8192)
    (hn : n.val = 2 * j.val) :
    dequant (lowCodes q) (lowScales s) (ix2 k j) = weight (q (ix2 k j)) 0 (s (ix2 (group k) n)) := by
  rw [dequant_apply, lowScales_apply s _ j n hn]
  show ((((IntOp.andi ((q (ix2 k j)).setWidth 32) 15#32).toNat : ℝ) - 8 : ℝ) : EReal) * _ = _
  rw [code_low]
  rfl

/-- The dequantised weights of the odd columns. -/
theorem high_apply (q : Vec Ideal S7168x4096 .i8) (s : Vec Ideal S56x8192 .i16) (k : Fin 7168) (j : Fin 4096) (n : Fin 8192)
    (hn : n.val = 2 * j.val + 1) :
    dequant (highCodes q) (highScales s) (ix2 k j) = weight (q (ix2 k j)) 1 (s (ix2 (group k) n)) := by
  rw [dequant_apply, highScales_apply s _ j n hn]
  show ((((IntOp.shrui .host ((q (ix2 k j)).setWidth 32) 4#32).toNat : ℝ) - 8 : ℝ) : EReal) * _ = _
  rw [code_high]
  rfl

/-- The product with a weight matrix whose column `j` holds the weights of output column `n` is the projection there. -/
theorem dot_apply (x : Vec Ideal S16x1x7168 .bf16) (w : FVec Ideal S7168x4096 .bf16) (q : Vec Ideal S7168x4096 .i8)
    (s : Vec Ideal S56x8192 .i16) (i : Fin 16) (n : Fin 8192)
    (hw : ∀ k, w (ix2 k (packedCol n)) = weight (q (ix2 k (packedCol n))) (n.val % 2) (s (ix2 (group k) n))) :
    dot x w (ix2 i (packedCol n)) = plainProj x q s i n := by
  refine (StackMember.dotGeneral_plain_apply (m := 16) (k := 7168) (n := 4096) none _ w i (packedCol n)).trans ?_
  refine Finset.sum_congr rfl fun k _ => ?_
  rw [hw, shapeCast_apply _ _ (ix2 i k) (ix3 i (0 : Fin 1) k) (by
    rw [rowMajor_ix3, rowMajor_ix2]
    show (i.val * 1 + 0) * 7168 + k.val = i.val * 7168 + k.val
    omega)]

/-- The reference's gate, a quotient by one plus an exponential, is the logistic function. -/
theorem gated_apply (g u : FVec Ideal S16x4096 .f32) (y : S16x4096.Idx) : gated g u y = swiglu (g y) (u y) := by
  show g y * Ideal.div (ones y) (ones y + Ideal.exp (-(g y))) * u y = _
  rw [ones_apply]
  rfl

/-- The reference's result is the specified one. -/
theorem res_spec (c : Dev nD) :
    res_out0 (F := Ideal) m c
      = spec (m ((c : Thread nD τ).loc main_arg0)) (m ((c : Thread nD τ).loc main_arg1)) (m ((c : Thread nD τ).loc main_arg2))
          (m ((c : Thread nD τ).loc main_arg3)) (m ((c : Thread nD τ).loc main_arg4)) := by
  rw [res_eq]
  funext y
  obtain ⟨i, z, n, rfl⟩ : ∃ (i : Fin 16) (z : Fin 1) (n : Fin 8192), y = ix3 i z n := ⟨y 0, y 1, y 2, eq_ix3 y⟩
  refine (interleave_apply _ _ _ _ _ i z n (packedCol n) rfl).trans ?_
  split
  · next h =>
    have hn : n.val = 2 * (packedCol n).val := by show n.val = 2 * (n.val / 2); omega
    rw [gated_apply]
    exact congrArg₂ swiglu (dot_apply _ _ _ _ i n fun k => by rw [h]; exact low_apply _ _ k _ n hn)
      (dot_apply _ _ _ _ i n fun k => by rw [h]; exact low_apply _ _ k _ n hn)
  · next h =>
    have h1 : n.val % 2 = 1 := by omega
    have hn : n.val = 2 * (packedCol n).val + 1 := by show n.val = 2 * (n.val / 2) + 1; omega
    rw [gated_apply]
    exact congrArg₂ swiglu (dot_apply _ _ _ _ i n fun k => by rw [h1]; exact high_apply _ _ k _ n hn)
      (dot_apply _ _ _ _ i n fun k => by rw [h1]; exact high_apply _ _ k _ n hn)

end Cert.ReferenceIdeal.Plain

end
-- ==== Proof.lean ====
/-
  The proof of `Cert.Claim`: every program runs to the end and leaves its arguments as they were, the idealized kernel is
  the kernel with nothing rewritten, and over the extended reals the kernel and the reference end with the same result —
  the one `Cert.Int4.spec` states, reached from the kernel in Proof/Equation.lean and from the reference in
  Proof/Reference.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end from any memory, leaves its arguments as they were, and has no semaphore to leave raised. -/
theorem frame_reference : Cert.quiescent_ReferenceIdeal (hReferenceIdeal := Cert.ReferenceIdeal.Gen.facts) :=
  fun m ρ _ => (θ_run (Cert.ReferenceIdeal.defs (F := Ideal)) _ _).mono
    (fun r h => ⟨fun c => (h c).2, sem_eq_zero_of_no_sems rfl r.2⟩) (Cert.ReferenceIdeal.Value.run (F := Ideal) m ρ)

/-- From memories that agree on the arguments, the kernel and the reference both end with the specified result of the
    kernel's arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Body.run m ρ, ?_⟩
  refine (θ_run (Cert.ReferenceIdeal.defs (F := Ideal)) _ _).mono (fun r h c => ⟨?_, (h c).2⟩)
    (Cert.ReferenceIdeal.Value.run (F := Ideal) m' ρ')
  obtain ⟨h0, h1, h2, h3, h4⟩ := hagree c
  refine (h c).1.trans ((Cert.ReferenceIdeal.Plain.res_spec m' c).trans ?_)
  rw [h0, h1, h2, h3, h4]

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
